-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tokens_in_vocab [hPre_tokens_in_vocab : Cert.Pre_tokens_in_vocab.Facts] (m : (ℓ : Loc Cert.KernelIdeal.nD Cert.KernelIdeal.τ Cert.KernelIdeal.sig) → Buf (Elt Ideal) ℓ) : Prop :=
  ∀ c : Dev Cert.KernelIdeal.nD,
    (Cert.Pre_tokens_in_vocab.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tokens_in_vocab [hPre_tokens_in_vocab : Cert.Pre_tokens_in_vocab.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tokens_in_vocab.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_tokens_in_vocab [hKernelIdeal : Cert.KernelIdeal.Facts] [hPre_tokens_in_vocab : Cert.Pre_tokens_in_vocab.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tokens_in_vocab m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_tokens_in_vocab [hReferenceIdeal : Cert.ReferenceIdeal.Facts] [hPre_tokens_in_vocab : Cert.Pre_tokens_in_vocab.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tokens_in_vocab m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_tokens_in_vocab [hKernelIdeal : Cert.KernelIdeal.Facts] [hReferenceIdeal : Cert.ReferenceIdeal.Facts] [hPre_tokens_in_vocab : Cert.Pre_tokens_in_vocab.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tokens_in_vocab m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_tokens_in_vocab : Cert.Pre_tokens_in_vocab.Facts),
    quiescent_Kernel (hKernel := hKernel)
    ∧ quiescent_KernelIdeal (hKernelIdeal := hKernelIdeal)
    ∧ quiescent_KernelIdeal_pre_tokens_in_vocab (hKernelIdeal := hKernelIdeal) (hPre_tokens_in_vocab := hPre_tokens_in_vocab)
    ∧ quiescent_ReferenceIdeal (hReferenceIdeal := hReferenceIdeal)
    ∧ quiescent_ReferenceIdeal_pre_tokens_in_vocab (hReferenceIdeal := hReferenceIdeal) (hPre_tokens_in_vocab := hPre_tokens_in_vocab)
    ∧ preserves_Kernel_KernelIdeal
    ∧ algebraic_KernelIdeal_ReferenceIdeal_pre_tokens_in_vocab (hKernelIdeal := hKernelIdeal) (hReferenceIdeal := hReferenceIdeal) (hPre_tokens_in_vocab := hPre_tokens_in_vocab)
-- ==== Pre_tokens_in_vocab.lean ====
abbrev S64x256 : Shape := ⟨2, ![64, 256]⟩
abbrev S256x256 : Shape := ⟨2, ![256, 256]⟩
abbrev S2048x256 : Shape := ⟨2, ![2048, 256]⟩
abbrev S2048x512 : Shape := ⟨2, ![2048, 512]⟩
abbrev S2048 : Shape := ⟨1, ![2048]⟩
abbrev S256x512 : Shape := ⟨2, ![256, 512]⟩
abbrev S256 : Shape := ⟨1, ![256]⟩
abbrev S_ : Shape := ⟨0, ![]⟩

class Facts : Prop where
  bcast_S_S64x256 : S_.BroadcastsInDim S64x256 (![] : Fin 0 → Fin S64x256.rank)

variable [Facts]

def fn {F : FTy → Type} [FloatOps F] (main_arg0 : IVec S64x256 32) (main_arg1 : FVec F S256x256 .f32) (main_arg2 : FVec F S2048x256 .f32) (main_arg3 : FVec F S2048x512 .f32) (main_arg4 : FVec F S2048 .f32) (main_arg5 : FVec F S2048 .f32) (main_arg6 : FVec F S256x512 .f32) (main_arg7 : FVec F S256 .f32) : IVec S64x256 1 :=
  let main_c : IVec S_ 32 := constantI S_ 32 0#32
  let main_v0 : IVec S64x256 32 := broadcastInDim S64x256 ![] bcast_S_S64x256 main_c
  let main_v1 : IVec S64x256 1 := cmpi .sge main_arg0 main_v0
  let main_c_0 : IVec S_ 32 := constantI S_ 32 256#32
  let main_v2 : IVec S64x256 32 := broadcastInDim S64x256 ![] bcast_S_S64x256 main_c_0
  let main_v3 : IVec S64x256 1 := cmpi .slt main_arg0 main_v2
  let main_v4 : IVec S64x256 1 := andi main_v1 main_v3
  main_v4
-- ==== Kernel.lean ====
abbrev S64x256 : Shape := ⟨2, ![64, 256]⟩
abbrev S256x256 : Shape := ⟨2, ![256, 256]⟩
abbrev S2048x256 : Shape := ⟨2, ![2048, 256]⟩
abbrev S2048x512 : Shape := ⟨2, ![2048, 512]⟩
abbrev S2048 : Shape := ⟨1, ![2048]⟩
abbrev S256x512 : Shape := ⟨2, ![256, 512]⟩
abbrev S256 : Shape := ⟨1, ![256]⟩
abbrev S256x64 : Shape := ⟨2, ![256, 64]⟩
abbrev S16384x1 : Shape := ⟨2, ![16384, 1]⟩
abbrev S256x2048 : Shape := ⟨2, ![256, 2048]⟩
abbrev S512x2048 : Shape := ⟨2, ![512, 2048]⟩
abbrev S512x256 : Shape := ⟨2, ![512, 256]⟩
abbrev S1x2048 : Shape := ⟨2, ![1, 2048]⟩
abbrev S1x256 : Shape := ⟨2, ![1, 256]⟩
abbrev S768x2048 : Shape := ⟨2, ![768, 2048]⟩
abbrev S64x512 : Shape := ⟨2, ![64, 512]⟩
abbrev S64x1 : Shape := ⟨2, ![64, 1]⟩
abbrev S64x768 : Shape := ⟨2, ![64, 768]⟩
abbrev S64x2048 : Shape := ⟨2, ![64, 2048]⟩

abbrev nBuf : Space → Nat
  | .hbm => 18
  | .vmem => 9
  | .smem => 0
  | _ => 0

abbrev bufTy : (tb : Table) → Fin (tcTables nBuf tb) → BufTy
  | .hbm, ⟨0, _⟩ => ⟨S64x256, .i32⟩
  | .hbm, ⟨1, _⟩ => ⟨S256x256, .f32⟩
  | .hbm, ⟨2, _⟩ => ⟨S2048x256, .f32⟩
  | .hbm, ⟨3, _⟩ => ⟨S2048x512, .f32⟩
  | .hbm, ⟨4, _⟩ => ⟨S2048, .f32⟩
  | .hbm, ⟨5, _⟩ => ⟨S2048, .f32⟩
  | .hbm, ⟨6, _⟩ => ⟨S256x512, .f32⟩
  | .hbm, ⟨7, _⟩ => ⟨S256, .f32⟩
  | .hbm, ⟨8, _⟩ => ⟨S256x64, .i32⟩
  | .hbm, ⟨9, _⟩ => ⟨S16384x1, .i32⟩
  | .hbm, ⟨10, _⟩ => ⟨S256x2048, .f32⟩
  | .hbm, ⟨11, _⟩ => ⟨S512x2048, .f32⟩
  | .hbm, ⟨12, _⟩ => ⟨S512x2048, .bf16⟩
  | .hbm, ⟨13, _⟩ => ⟨S512x256, .f32⟩
  | .hbm, ⟨14, _⟩ => ⟨S2048, .f32⟩
  | .hbm, ⟨15, _⟩ => ⟨S1x2048, .f32⟩
  | .hbm, ⟨16, _⟩ => ⟨S1x256, .f32⟩
  | .hbm, ⟨17, _⟩ => ⟨S64x256, .f32⟩
  | .local _ .vmem, ⟨0, _⟩ => ⟨S16384x1, .i32⟩
  | .local _ .vmem, ⟨1, _⟩ => ⟨S256x256, .f32⟩
  | .local _ .vmem, ⟨2, _⟩ => ⟨S256x2048, .f32⟩
  | .local _ .vmem, ⟨3, _⟩ => ⟨S512x2048, .bf16⟩
  | .local _ .vmem, ⟨4, _⟩ => ⟨S1x2048, .f32⟩
  | .local _ .vmem, ⟨5, _⟩ => ⟨S512x256, .f32⟩
  | .local _ .vmem, ⟨6, _⟩ => ⟨S1x256, .f32⟩
  | .local _ .vmem, ⟨7, _⟩ => ⟨S64x256, .f32⟩
  | .local _ .vmem, ⟨8, _⟩ => ⟨S768x2048, .bf16⟩
  | _, _ => ⟨S64x256, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c8_i32 : BitVec 32 := 8#32
  let v19 : BitVec 32 := Scalar.addi c0_i32 c8_i32
  let c1_i32 : BitVec 32 := 1#32
  ⟨c0_i32, v19, c1_i32⟩
def k0_off1 (k0_t1 : Fin k0_t1_loop.trips) (c0_i32_20 : BitVec 32) : Fin 2 → Nat :=
  let c32_i32 : BitVec 32 := 32#32
  let c0_i32 : BitVec 32 := 0#32
  let c1_i32 : BitVec 32 := 1#32
  let arg9 : BitVec 32 := Scf.iv c0_i32 c1_i32 k0_t1
  let v30 : BitVec 32 := Scalar.muli c32_i32 arg9
  let v31 : BitVec 32 := Scalar.addi v30 c0_i32_20
  let c64_i32 : BitVec 32 := 64#32
  let v32 : BitVec 32 := Scalar.muli v31 c64_i32
  let v33 : Index := Scalar.indexCast v32
  let c0_21 : Index := 0#32
  ![v33.toNat, 0]
abbrev stage0_0 : Fin 1 → Memref sig .tc .vmem S16384x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S64x256 : Shape := ⟨2, ![64, 256]⟩
abbrev S256x256 : Shape := ⟨2, ![256, 256]⟩
abbrev S2048x256 : Shape := ⟨2, ![2048, 256]⟩
abbrev S2048x512 : Shape := ⟨2, ![2048, 512]⟩
abbrev S2048 : Shape := ⟨1, ![2048]⟩
abbrev S256x512 : Shape := ⟨2, ![256, 512]⟩
abbrev S256 : Shape := ⟨1, ![256]⟩
abbrev S_ : Shape := ⟨0, ![]⟩
abbrev S64x256x1 : Shape := ⟨3, ![64, 256, 1]⟩
abbrev S64x256x256 : Shape := ⟨3, ![64, 256, 256]⟩
abbrev S256x64x256 : Shape := ⟨3, ![256, 64, 256]⟩
abbrev S64x512 : Shape := ⟨2, ![64, 512]⟩
abbrev S1x64x256 : Shape := ⟨3, ![1, 64, 256]⟩
abbrev S256x2048 : Shape := ⟨2, ![256, 2048]⟩
abbrev S64x2048 : Shape := ⟨2, ![64, 2048]⟩
abbrev S1x2048 : Shape := ⟨2, ![1, 2048]⟩
abbrev S512x2048 : Shape := ⟨2, ![512, 2048]⟩
abbrev S512x256 : Shape := ⟨2, ![512, 256]⟩
abbrev S1x256 : Shape := ⟨2, ![1, 256]⟩

abbrev nBuf : Space → Nat
  | .hbm => 89
  | .vmem => 0
  | .smem => 0
  | _ => 0

abbrev bufTy : (tb : Table) → Fin (tcTables nBuf tb) → BufTy
  | .hbm, ⟨0, _⟩ => ⟨S64x256, .i32⟩
  | .hbm, ⟨1, _⟩ => ⟨S256x256, .f32⟩
  | .hbm, ⟨2, _⟩ => ⟨S2048x256, .f32⟩
  | .hbm, ⟨3, _⟩ => ⟨S2048x512, .f32⟩
  | .hbm, ⟨4, _⟩ => ⟨S2048, .f32⟩
  | .hbm, ⟨5, _⟩ => ⟨S2048, .f32⟩
  | .hbm, ⟨6, _⟩ => ⟨S256x512, .f32⟩
  | .hbm, ⟨7, _⟩ => ⟨S256, .f32⟩
  | .hbm, ⟨8, _⟩ => ⟨S_, .i32⟩
  | .hbm, ⟨9, _⟩ => ⟨S64x256, .i32⟩
  | .hbm, ⟨10, _⟩ => ⟨S64x256, .i1⟩
  | .hbm, ⟨11, _⟩ => ⟨S_, .i32⟩
  | .hbm, ⟨12, _⟩ => ⟨S64x256, .i32⟩
  | .hbm, ⟨13, _⟩ => ⟨S64x256, .i32⟩
  | .hbm, ⟨14, _⟩ => ⟨S64x256, .i32⟩
  | .hbm, ⟨15, _⟩ => ⟨S64x256x1, .i32⟩
  | .hbm, ⟨16, _⟩ => ⟨S64x256x256, .f32⟩
  | .hbm, ⟨17, _⟩ => ⟨S256x64x256, .f32⟩
  | .hbm, ⟨18, _⟩ => ⟨S_, .f32⟩
  | .hbm, ⟨19, _⟩ => ⟨S64x512, .f32⟩
  | .hbm, ⟨20, _⟩ => ⟨S_, .f32⟩
  | .hbm, ⟨21, _⟩ => ⟨S64x512, .f32⟩
  | .hbm, ⟨22, _⟩ => ⟨S_, .i32⟩
  | .hbm, ⟨23, _⟩ => ⟨S256x64x256, .f32⟩
  | .hbm, ⟨24, _⟩ => ⟨S2048x256, .f32⟩
  | .hbm, ⟨25, _⟩ => ⟨S2048, .f32⟩
  | .hbm, ⟨26, _⟩ => ⟨S2048x512, .f32⟩
  | .hbm, ⟨27, _⟩ => ⟨S2048, .f32⟩
  | .hbm, ⟨28, _⟩ => ⟨S_, .i32⟩
  | .hbm, ⟨29, _⟩ => ⟨S64x512, .f32⟩
  | .hbm, ⟨30, _⟩ => ⟨S64x512, .f32⟩
  | .hbm, ⟨31, _⟩ => ⟨S_, .i32⟩
  | .hbm, ⟨32, _⟩ => ⟨S_, .i1⟩
  | .hbm, ⟨33, _⟩ => ⟨S_, .i32⟩
  | .hbm, ⟨34, _⟩ => ⟨S_, .i32⟩
  | .hbm, ⟨35, _⟩ => ⟨S1x64x256, .f32⟩
  | .hbm, ⟨36, _⟩ => ⟨S64x256, .f32⟩
  | .hbm, ⟨37, _⟩ => ⟨S256x2048, .f32⟩
  | .hbm, ⟨38, _⟩ => ⟨S64x2048, .f32⟩
  | .hbm, ⟨39, _⟩ => ⟨S1x2048, .f32⟩
  | .hbm, ⟨40, _⟩ => ⟨S64x2048, .f32⟩
  | .hbm, ⟨41, _⟩ => ⟨S64x2048, .f32⟩
  | .hbm, ⟨42, _⟩ => ⟨S512x2048, .f32⟩
  | .hbm, ⟨43, _⟩ => ⟨S64x2048, .f32⟩
  | .hbm, ⟨44, _⟩ => ⟨S64x2048, .f32⟩
  | .hbm, ⟨45, _⟩ => ⟨S1x2048, .f32⟩
  | .hbm, ⟨46, _⟩ => ⟨S64x2048, .f32⟩
  | .hbm, ⟨47, _⟩ => ⟨S64x2048, .f32⟩
  | .hbm, ⟨48, _⟩ => ⟨S64x512, .f32⟩
  | .hbm, ⟨49, _⟩ => ⟨S64x512, .f32⟩
  | .hbm, ⟨50, _⟩ => ⟨S64x512, .f32⟩
  | .hbm, ⟨51, _⟩ => ⟨S64x512, .f32⟩
  | .hbm, ⟨52, _⟩ => ⟨S64x512, .f32⟩
  | .hbm, ⟨53, _⟩ => ⟨S64x512, .f32⟩
  | .hbm, ⟨54, _⟩ => ⟨S_, .f32⟩
  | .hbm, ⟨55, _⟩ => ⟨S64x512, .f32⟩
  | .hbm, ⟨56, _⟩ => ⟨S64x512, .f32⟩
  | .hbm, ⟨57, _⟩ => ⟨S_, .f32⟩
  | .hbm, ⟨58, _⟩ => ⟨S64x512, .f32⟩
  | .hbm, ⟨59, _⟩ => ⟨S64x512, .f32⟩
  | .hbm, ⟨60, _⟩ => ⟨S64x512, .f32⟩
  | .hbm, ⟨61, _⟩ => ⟨S64x512, .f32⟩
  | .hbm, ⟨62, _⟩ => ⟨S_, .f32⟩
  | .hbm, ⟨63, _⟩ => ⟨S64x512, .f32⟩
  | .hbm, ⟨64, _⟩ => ⟨S64x512, .f32⟩
  | .hbm, ⟨65, _⟩ => ⟨S_, .f32⟩
  | .hbm, ⟨66, _⟩ => ⟨S64x512, .f32⟩
  | .hbm, ⟨67, _⟩ => ⟨S64x512, .f32⟩
  | .hbm, ⟨68, _⟩ => ⟨S64x512, .f32⟩
  | .hbm, ⟨69, _⟩ => ⟨S64x512, .f32⟩
  | .hbm, ⟨70, _⟩ => ⟨S64x512, .f32⟩
  | .hbm, ⟨71, _⟩ => ⟨S_, .f32⟩
  | .hbm, ⟨72, _⟩ => ⟨S64x512, .f32⟩
  | .hbm, ⟨73, _⟩ => ⟨S64x512, .f32⟩
  | .hbm, ⟨74, _⟩ => ⟨S_, .f32⟩
  | .hbm, ⟨75, _⟩ => ⟨S64x512, .f32⟩
  | .hbm, ⟨76, _⟩ => ⟨S64x512, .f32⟩
  | .hbm, ⟨77, _⟩ => ⟨S64x512, .f32⟩
  | .hbm, ⟨78, _⟩ => ⟨S64x512, .f32⟩
  | .hbm, ⟨79, _⟩ => ⟨S64x512, .f32⟩
  | .hbm, ⟨80, _⟩ => ⟨S64x512, .f32⟩
  | .hbm, ⟨81, _⟩ => ⟨S64x512, .f32⟩
  | .hbm, ⟨82, _⟩ => ⟨S_, .i32⟩
  | .hbm, ⟨83, _⟩ => ⟨S_, .i32⟩
  | .hbm, ⟨84, _⟩ => ⟨S512x256, .f32⟩
  | .hbm, ⟨85, _⟩ => ⟨S64x256, .f32⟩
  | .hbm, ⟨86, _⟩ => ⟨S1x256, .f32⟩
  | .hbm, ⟨87, _⟩ => ⟨S64x256, .f32⟩
  | .hbm, ⟨88, _⟩ => ⟨S64x256, .f32⟩
  | _, _ => ⟨S64x256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_c_2 : Ref sig .tc := ⟨.hbm, 22, rfl⟩
abbrev main_v10_0 : Ref sig .tc := ⟨.hbm, 23, rfl⟩
abbrev main_v10_1 : Ref sig .tc := ⟨.hbm, 24, rfl⟩
abbrev main_v10_2 : Ref sig .tc := ⟨.hbm, 25, rfl⟩
abbrev main_v10_3 : Ref sig .tc := ⟨.hbm, 26, rfl⟩
abbrev main_v10_4 : Ref sig .tc := ⟨.hbm, 27, rfl⟩
abbrev main_v10_5 : Ref sig .tc := ⟨.hbm, 28, rfl⟩
abbrev main_v10_6 : Ref sig .tc := ⟨.hbm, 29, rfl⟩
abbrev main_v10_7 : Ref sig .tc := ⟨.hbm, 30, rfl⟩
abbrev main_while0c_c_10 : Ref sig .tc := ⟨.hbm, 31, rfl⟩
abbrev main_while0c_v16 : Ref sig .tc := ⟨.hbm, 32, rfl⟩
abbrev main_while0b_call0_c : Ref sig .tc := ⟨.hbm, 33, rfl⟩
abbrev main_while0b_call0_c_0 : Ref sig .tc := ⟨.hbm, 34, rfl⟩
abbrev main_while0b_call0_v0 : Ref sig .tc := ⟨.hbm, 35, rfl⟩
abbrev main_while0b_v16 : Ref sig .tc := ⟨.hbm, 36, rfl⟩
abbrev main_while0b_v17 : Ref sig .tc := ⟨.hbm, 37, rfl⟩
abbrev main_while0b_v18 : Ref sig .tc := ⟨.hbm, 38, rfl⟩
abbrev main_while0b_v19 : Ref sig .tc := ⟨.hbm, 39, rfl⟩
abbrev main_while0b_v20 : Ref sig .tc := ⟨.hbm, 40, rfl⟩
abbrev main_while0b_v21 : Ref sig .tc := ⟨.hbm, 41, rfl⟩
abbrev main_while0b_v22 : Ref sig .tc := ⟨.hbm, 42, rfl⟩
abbrev main_while0b_v23 : Ref sig .tc := ⟨.hbm, 43, rfl⟩
abbrev main_while0b_v24 : Ref sig .tc := ⟨.hbm, 44, rfl⟩
abbrev main_while0b_v25 : Ref sig .tc := ⟨.hbm, 45, rfl⟩
abbrev main_while0b_v26 : Ref sig .tc := ⟨.hbm, 46, rfl⟩
abbrev main_while0b_v27 : Ref sig .tc := ⟨.hbm, 47, rfl⟩
abbrev main_while0b_v28 : Ref sig .tc := ⟨.hbm, 48, rfl⟩
abbrev main_while0b_v29 : Ref sig .tc := ⟨.hbm, 49, rfl⟩
abbrev main_while0b_v30 : Ref sig .tc := ⟨.hbm, 50, rfl⟩
abbrev main_while0b_v31 : Ref sig .tc := ⟨.hbm, 51, rfl⟩
abbrev main_while0b_v32 : Ref sig .tc := ⟨.hbm, 52, rfl⟩
abbrev main_while0b_v33 : Ref sig .tc := ⟨.hbm, 53, rfl⟩
abbrev main_while0b_cst_10 : Ref sig .tc := ⟨.hbm, 54, rfl⟩
abbrev main_while0b_v34 : Ref sig .tc := ⟨.hbm, 55, rfl⟩
abbrev main_while0b_v35 : Ref sig .tc := ⟨.hbm, 56, rfl⟩
abbrev main_while0b_cst_11 : Ref sig .tc := ⟨.hbm, 57, rfl⟩
abbrev main_while0b_v36 : Ref sig .tc := ⟨.hbm, 58, rfl⟩
abbrev main_while0b_v37 : Ref sig .tc := ⟨.hbm, 59, rfl⟩
abbrev main_while0b_v38 : Ref sig .tc := ⟨.hbm, 60, rfl⟩
abbrev main_while0b_v39 : Ref sig .tc := ⟨.hbm, 61, rfl⟩
abbrev main_while0b_cst_12 : Ref sig .tc := ⟨.hbm, 62, rfl⟩
abbrev main_while0b_v40 : Ref sig .tc := ⟨.hbm, 63, rfl⟩
abbrev main_while0b_v41 : Ref sig .tc := ⟨.hbm, 64, rfl⟩
abbrev main_while0b_cst_13 : Ref sig .tc := ⟨.hbm, 65, rfl⟩
abbrev main_while0b_v42 : Ref sig .tc := ⟨.hbm, 66, rfl⟩
abbrev main_while0b_v43 : Ref sig .tc := ⟨.hbm, 67, rfl⟩
abbrev main_while0b_v44 : Ref sig .tc := ⟨.hbm, 68, rfl⟩
abbrev main_while0b_v45 : Ref sig .tc := ⟨.hbm, 69, rfl⟩
abbrev main_while0b_v46 : Ref sig .tc := ⟨.hbm, 70, rfl⟩
abbrev main_while0b_cst_14 : Ref sig .tc := ⟨.hbm, 71, rfl⟩
abbrev main_while0b_v47 : Ref sig .tc := ⟨.hbm, 72, rfl⟩
abbrev main_while0b_v48 : Ref sig .tc := ⟨.hbm, 73, rfl⟩
abbrev main_while0b_cst_15 : Ref sig .tc := ⟨.hbm, 74, rfl⟩
abbrev main_while0b_v49 : Ref sig .tc := ⟨.hbm, 75, rfl⟩
abbrev main_while0b_v50 : Ref sig .tc := ⟨.hbm, 76, rfl⟩
abbrev main_while0b_v51 : Ref sig .tc := ⟨.hbm, 77, rfl⟩
abbrev main_while0b_v52 : Ref sig .tc := ⟨.hbm, 78, rfl⟩
abbrev main_while0b_v53 : Ref sig .tc := ⟨.hbm, 79, rfl⟩
abbrev main_while0b_v54 : Ref sig .tc := ⟨.hbm, 80, rfl⟩
abbrev main_while0b_v55 : Ref sig .tc := ⟨.hbm, 81, rfl⟩
abbrev main_while0b_c_16 : Ref sig .tc := ⟨.hbm, 82, rfl⟩
abbrev main_while0b_v56 : Ref sig .tc := ⟨.hbm, 83, rfl⟩
abbrev main_v11 : Ref sig .tc := ⟨.hbm, 84, rfl⟩
abbrev main_v12 : Ref sig .tc := ⟨.hbm, 85, rfl⟩
abbrev main_v13 : Ref sig .tc := ⟨.hbm, 86, rfl⟩
abbrev main_v14 : Ref sig .tc := ⟨.hbm, 87, rfl⟩
abbrev main_v15 : Ref sig .tc := ⟨.hbm, 88, rfl⟩

abbrev nD : Nat := 1
abbrev τ : Topo := Topo.v7x

variable {F : FTy → Type} [FloatOps F]

abbrev main_while0_count : Scf.Loop 32 := ⟨0#32, 256#32, 1#32⟩
-- ==== Proof.Cell.lean ====
/- What one step of the kernel's recurrence computes, and what the kernel's loop has computed after each trip: the loop
   body is written out thirty-two steps at a time, so a trip is thirty-two steps, and the loop is 256 of them. -/
module

public import proofs.«01_k».proof.Proof.Gen.KernelIdeal.Value
public import Idealize.ShloMosaic.Lib.VecWindow
public import Idealize.ShloMosaic.Lib.ValueIdxCore

@[expose] public section

set_option maxRecDepth 20000

noncomputable section

namespace Cert.KernelIdeal.Hand

open Cert.KernelIdeal Cert.KernelIdeal.Gen Idealize.ShloMosaic Idealize.ShloMosaic.TcCoe Idealize.ShloMosaic.Tactic Idealize.SL.Sem
open Idealize.ShloMosaic.ValueIdx

variable {F : FTy → Type} [FloatOps F]

/-- The hidden state (what the next step multiplies) beside the cell state. -/
abbrev Carry (F : FTy → Type) : Type := FVec F S64x512 .bf16 × FVec F S64x512 .f32

/-- One row per batch element, one column per token of the vocabulary: 1 where the column is the row's token, else 0. -/
def oneHot (ids : IVec S64x1 32) : FVec F S64x256 .bf16 :=
  truncf .bf16 (sitofp .f32 (extui 32 (cmpi .eq (iota .tc S64x256 32 [1] iota_S64x256_d1_w32)
    (broadcastTo S64x256 (shapeCast S64x1 ids shapeCasts_S64x1_S64x1) broadcasts_S64x1_S64x256)) natLt_1_32) : FVec F S64x256 .f32)
    bitsLt_bf16_f32

/-- The four gates before their activations: the one-hot rows set beside the hidden state, times the stacked table. -/
def gates (W : FVec F S768x2048 .bf16) (ids : IVec S64x1 32) (h : FVec F S64x512 .bf16) : FVec F S64x2048 .f32 :=
  matmul dot_S64x768_S768x2048_S64x2048_1_0_0_1_n_n none
    (concatenate S64x768 1 [⟨S64x256, oneHot ids⟩, ⟨S64x512, h⟩] concatenates_S64x256_S64x512_S64x768_d1)
    W (constant S64x2048 .f32 0x00000000#32)

/-- The next cell state from the gates and the cell state. -/
def nextC (g : FVec F S64x2048 .f32) (c : FVec F S64x512 .f32) : FVec F S64x512 .f32 :=
  addf (mulf (logistic (extractStridedSlice S64x512 ![0, 512] g slices_S64x2048_o0_512_S64x512)) c)
    (mulf (logistic (extractStridedSlice S64x512 ![0, 0] g slices_S64x2048_o0_0_S64x512))
      (tanh (extractStridedSlice S64x512 ![0, 1024] g slices_S64x2048_o0_1024_S64x512)))

/-- The next hidden state from the gates and the cell state. -/
def nextH (g : FVec F S64x2048 .f32) (c : FVec F S64x512 .f32) : FVec F S64x512 .bf16 :=
  truncf .bf16 (mulf (logistic (extractStridedSlice S64x512 ![0, 1536] g slices_S64x2048_o0_1536_S64x512)) (tanh (nextC g c)))
    bitsLt_bf16_f32

/-- One step of the recurrence on both states. -/
def cell (W : FVec F S768x2048 .bf16) (ids : IVec S64x1 32) (p : Carry F) : Carry F :=
  (nextH (gates W ids p.1) p.2, nextC (gates W ids p.1) p.2)

/-- `n` steps from `p`, step `i` at the tokens `ids i`. -/
def cells (W : FVec F S768x2048 .bf16) (ids : ℕ → IVec S64x1 32) (p : Carry F) : ℕ → Carry F
  | 0 => p
  | n + 1 => cell W (ids n) (cells W ids p n)

/-- Running `n` steps and then `u` steps at the tokens that follow is running `n + u` steps. -/
theorem cells_add (W : FVec F S768x2048 .bf16) (ids : ℕ → IVec S64x1 32) (p : Carry F) (n u : ℕ) :
    cells W (fun i => ids (n + i)) (cells W ids p n) u = cells W ids p (n + u) := by
  induction u with
  | zero => rfl
  | succ u ih => exact congrArg (cell W (ids (n + u))) ih

/-- Steps only look at the tokens of the times they run. -/
theorem cells_congr (W : FVec F S768x2048 .bf16) (ids ids' : ℕ → IVec S64x1 32) (p : Carry F) (n : ℕ)
    (h : ∀ i, i < n → ids i = ids' i) : cells W ids p n = cells W ids' p n := by
  induction n with
  | zero => rfl
  | succ n ih =>
    show cell W (ids n) _ = cell W (ids' n) _
    rw [h n (Nat.lt_succ_self n), ih fun i hi => h i (Nat.lt_succ_of_lt hi)]

/-- The 64 tokens of time `n`: rows `64 n … 64 n + 63` of the column of all tokens. -/
def tokens (x : IVec S16384x1 32) (n : ℕ) : IVec S64x1 32 :=
  fun j => x (ix2 (Fin.ofNat 16384 (64 * n + (j 0).val)) (0 : Fin 1))

section Trip

variable (𝒱 : Variants) (c : Dev nD) (bd : Option 𝒱.V) (arg0 : Memref sig .tc .vmem S16384x1 .i32) (harg0 : arg0.IsWhole) (arg1 : Memref sig .tc .vmem S256x256 .f32) (harg1 : arg1.IsWhole) (arg2 : Memref sig .tc .vmem S256x2048 .f32) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S64x256 .f32) (harg7 : arg7.IsWhole) (arg8 : Memref sig .tc .vmem S768x2048 .bf16) (harg8 : arg8.IsWhole)

/-- The tokens step `u` of trip `k` loads. -/
def tripTokens (X : BufTy.Contents (Elt F) arg0.view.ty) (k : Fin k0_t1_loop.trips) (u : Fin 32) : IVec S64x1 32 :=
  View.readAt (Elt F) arg0.view (Rect.unit (s := S16384x1) (k0_off1 k (BitVec.ofNat 32 u.val)) S64x1.size (k0_off1_inb k u)).toLoadRect X

/-- One trip of the loop is thirty-two steps, each at the tokens it loads and at the whole table. -/
theorem trip_eq (X0 : BufTy.Contents (Elt F) arg0.view.ty) (X8 : BufTy.Contents (Elt F) arg8.view.ty) (k : Fin k0_t1_loop.trips) (p : Carry F) :
    tripR_k0_t1 (F := F) 𝒱 c bd arg0 harg0 arg1 harg1 arg2 harg2 arg3 harg3 arg4 harg4 arg5 harg5 arg6 harg6 arg7 harg7 arg8 harg8 X0 X8 k p
      = cells (View.readAt (Elt F) arg8.view (Rect.unit ![0, 0] S768x2048.size inb_S768x2048_S768x2048_0_0).toLoadRect X8)
          (fun n => tripTokens arg0 X0 k (Fin.ofNat 32 n)) p 32 := by
  unfold tripR_k0_t1 trip_k0_t1
  dsimp only
  rfl

/-- The tokens a trip's step loads are those of the time `32 k + u`. -/
theorem tripTokens_eq (x : Vec F S16384x1 .i32) (k : Fin k0_t1_loop.trips) (u : Fin 32) :
    tripTokens arg0 (harg0.unread x) k u = tokens x (32 * k.val + u.val) := by
  have hk : k.val < 8 := Nat.lt_of_lt_of_le k.isLt k0_t1_abs.2.1
  unfold tripTokens
  rw [View.readAt_unit arg0.view _ _ (k0_off1_eq k u) (by rw [← k0_off1_eq k u]; exact k0_off1_inb k u), harg0.read_unread]
  funext j
  refine congrArg x (funext fun a => Fin.ext ?_)
  have hj : (j 0).val < 64 := (j 0).isLt
  have hj1 : (j 1).val < 1 := (j 1).isLt
  match a with
  | ⟨0, _⟩ =>
    show 2048 * k.val + 64 * u.val + 1 * (j 0).val = (64 * (32 * k.val + u.val) + (j 0).val) % 16384
    omega
  | ⟨1, _⟩ =>
    show 0 + 1 * (j 1).val = 0
    omega

/-- Before trip `k` the carried value is `32 k` steps from the initial one. -/
theorem loop_eq (x : Vec F S16384x1 .i32) (X8 : BufTy.Contents (Elt F) arg8.view.ty) (p : Carry F) :
    ∀ k : ℕ, k ≤ k0_t1_loop.trips →
      st_k0_t1 (F := F) 𝒱 c bd arg0 harg0 arg1 harg1 arg2 harg2 arg3 harg3 arg4 harg4 arg5 harg5 arg6 harg6 arg7 harg7 arg8 harg8 (harg0.unread x) X8 p k
        = cells (View.read (Elt F) arg8.view X8) (tokens x) p (32 * k) := by
  intro k
  induction k with
  | zero => intro _; rfl
  | succ k ih =>
    intro hk
    rw [st_k0_t1_succ 𝒱 c bd arg0 harg0 arg1 harg1 arg2 harg2 arg3 harg3 arg4 harg4 arg5 harg5 arg6 harg6 arg7 harg7 arg8 harg8 _ X8 p ⟨k, hk⟩,
      trip_eq, ih (Nat.le_of_succ_le hk), View.readAt_full, Nat.mul_succ, ← cells_add]
    refine cells_congr _ _ _ _ _ fun i hi => ?_
    rw [tripTokens_eq]
    show tokens x (32 * k + i % 32) = _
    rw [Nat.mod_eq_of_lt hi]

end Trip

end Cert.KernelIdeal.Hand

end
-- ==== Proof.Body.lean ====
/- What the kernel's one run leaves in its output block, as a function of the seven input blocks. -/
module

public import proofs.«01_k».proof.Proof.Cell
public import Idealize.ShloMosaic.Lib.WritesUnit

@[expose] public section

set_option maxRecDepth 20000

noncomputable section

namespace Cert.KernelIdeal.Hand

open Cert.KernelIdeal Cert.KernelIdeal.Gen Idealize.ShloMosaic Idealize.ShloMosaic.TcCoe Idealize.ShloMosaic.Tactic Idealize.SL.Sem
open Idealize.ShloMosaic.ValueIdx

variable {F : FTy → Type} [FloatOps F]

/-- The stacked table the kernel builds once: the embedding's products on the first 256 rows, the recurrent weights below. -/
def table (x1 : Vec F S256x256 .f32) (x2 : Vec F S256x2048 .f32) (x3 : Vec F S512x2048 .bf16) (x4 : Vec F S1x2048 .f32) :
    FVec F S768x2048 .bf16 :=
  fun j => if h : (j 0).val < 256 then k0_pay1 x1 x2 x4 (ix2 (⟨(j 0).val, h⟩ : Fin 256) (⟨(j 1).val, idx2_lt1 j⟩ : Fin 2048))
    else k0_pay2 x3 (ix2 (⟨(j 0).val - 256, by have := idx2_lt0 j; omega⟩ : Fin 512) (⟨(j 1).val, idx2_lt1 j⟩ : Fin 2048))

/-- The output: 256 steps from the zero states, then the dense head. -/
def result (x0 : Vec F S16384x1 .i32) (x1 : Vec F S256x256 .f32) (x2 : Vec F S256x2048 .f32) (x3 : Vec F S512x2048 .bf16)
    (x4 : Vec F S1x2048 .f32) (x5 : Vec F S512x256 .f32) (x6 : Vec F S1x256 .f32) : FVec F S64x256 .f32 :=
  k0_pay7 (cells (table x1 x2 x3 x4) (tokens x0) (k0_pay3, k0_pay4) 256).1 x5 x6

section Block

variable (c : Dev nD) (arg0 : Memref sig .tc .vmem S16384x1 .i32) (harg0 : arg0.IsWhole) (arg1 : Memref sig .tc .vmem S256x256 .f32) (harg1 : arg1.IsWhole) (arg2 : Memref sig .tc .vmem S256x2048 .f32) (harg2 : arg2.IsWhole) (arg3 : Memref sig .tc .vmem S512x2048 .bf16) (harg3 : arg3.IsWhole) (arg4 : Memref sig .tc .vmem S1x2048 .f32) (harg4 : arg4.IsWhole) (arg5 : Memref sig .tc .vmem S512x256 .f32) (harg5 : arg5.IsWhole) (arg6 : Memref sig .tc .vmem S1x256 .f32) (harg6 : arg6.IsWhole) (arg7 : Memref sig .tc .vmem S64x256 .f32) (harg7 : arg7.IsWhole) (arg8 : Memref sig .tc .vmem S768x2048 .bf16) (harg8 : arg8.IsWhole)
  (x0 : Vec F S16384x1 .i32) (x1 : Vec F S256x256 .f32) (x2 : Vec F S256x2048 .f32) (x3 : Vec F S512x2048 .bf16) (x4 : Vec F S1x2048 .f32) (x5 : Vec F S512x256 .f32) (x6 : Vec F S1x256 .f32)

/-- The scratch buffer holds the stacked table once the two stores are done, whatever it held before. -/
theorem scratch_eq (f : BufTy.Contents (Elt F) arg8.view.ty) :
    arg8.view.read (Elt F) (arg8.view.writes (Elt F) f
      [⟨Rect.unit (s := S768x2048) ![256, 0] S512x2048.size inb_S768x2048_S512x2048_256_0, k0_pay2 x3⟩,
       ⟨Rect.unit (s := S768x2048) ![0, 0] S256x2048.size inb_S768x2048_S256x2048_0_0, k0_pay1 x1 x2 x4⟩])
      = table x1 x2 x3 x4 := by
  funext j
  have h0 : (j 0).val < 768 := idx2_lt0 j
  have h1 : (j 1).val < 2048 := idx2_lt1 j
  unfold table
  by_cases h : (j 0).val < 256
  · rw [dif_pos h, View.read_writes_cons_unit_of_not_mem arg8.view f _ _ _ j rfl (0 : Fin 2) (Or.inl h)]
    refine View.read_writes_cons_unit_of_mem arg8.view f _ _ _ j (ix2 (⟨(j 0).val, h⟩ : Fin 256) (⟨(j 1).val, h1⟩ : Fin 2048)) rfl ?_
    intro a
    match a with
    | ⟨0, _⟩ => exact (Nat.zero_add _).symm
    | ⟨1, _⟩ => exact (Nat.zero_add _).symm
  · rw [dif_neg h]
    refine View.read_writes_cons_unit_of_mem arg8.view f _ _ _ j
      (ix2 (⟨(j 0).val - 256, by omega⟩ : Fin 512) (⟨(j 1).val, h1⟩ : Fin 2048)) rfl ?_
    intro a
    match a with
    | ⟨0, _⟩ => show (j 0).val = 256 + ((j 0).val - 256); omega
    | ⟨1, _⟩ => exact (Nat.zero_add _).symm

/-- The loop runs eight trips. -/
theorem trips_eq : k0_t1_loop.trips = 8 := by decide

/-- What the run leaves in the output's staging buffer. -/
theorem out_eq :
    out0_A_7 c arg0 harg0 arg1 harg1 arg2 harg2 arg3 harg3 arg4 harg4 arg5 harg5 arg6 harg6 arg7 harg7 arg8 harg8 x0 x1 x2 x3 x4 x5 x6
      = result x0 x1 x2 x3 x4 x5 x6 := by
  have hl := loop_eq Variants.none c none arg0 harg0 arg1 harg1 arg2 harg2 arg3 harg3 arg4 harg4 arg5 harg5 arg6 harg6 arg7 harg7 arg8 harg8 x0
    (arg8.view.writes (Elt F) arg8.view.junk (kernelRun0_A.sl.HS0_2 c arg1 harg1 arg2 harg2 arg3 harg3 arg4 harg4 x1 x2 x3 x4))
    (k0_pay3, k0_pay4) k0_t1_loop.trips (Nat.le_refl _)
  have ht : 32 * k0_t1_loop.trips = 256 := by rw [trips_eq]
  rw [ht] at hl
  unfold out0_A_7 kernelRun0_A
  dsimp only
  erw [View.read_writes_full, View.readAt_full, View.readAt_full, harg5.read_unread, harg6.read_unread]
  unfold result
  refine congrArg (fun p : Carry F => k0_pay7 p.1 x5 x6) (hl.trans ?_)
  refine congrArg (fun W => cells W (tokens x0) (k0_pay3, k0_pay4) 256) ?_
  sl_unfold_words
  rw [View.readAt_full, View.readAt_full, View.readAt_full, View.readAt_full, harg1.read_unread, harg2.read_unread,
    harg3.read_unread, harg4.read_unread]
  exact scratch_eq arg8 x1 x2 x3 x4 _

end Block

end Cert.KernelIdeal.Hand

end
-- ==== Proof.Gates.lean ====
/- The kernel's gates over the extended reals: a one-hot row times the table picks the token's row of the table, so the
   gates of a batch element are its token's embedding times the input weights, plus the summed biases, plus its hidden state
   times the recurrent weights. -/
module

public import proofs.«01_k».proof.Proof.Body
public import Idealize.ShloMosaic.Lib.MatmulPlain

@[expose] public section

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx

/-- The one-hot row of batch element `b` holds 1 at its token and 0 at every other. -/
theorem oneHot_apply (ids : IVec S64x1 32) (b : Fin 64) (v w : Fin 256)
    (hv : ids (ix2 b (0 : Fin 1)) = BitVec.ofNat 32 v.val) :
    (oneHot (F := Ideal) ids (ix2 b w) : EReal) = if w = v then 1 else 0 := by
  have hb : broadcastTo S64x256 (shapeCast S64x1 ids shapeCasts_S64x1_S64x1) broadcasts_S64x1_S64x256 (ix2 b w)
      = BitVec.ofNat 32 v.val := by
    rw [shapeCast_self, ← hv]
    refine broadcastTo_apply _ _ _ _ fun a => ?_
    match a with
    | ⟨0, _⟩ => rfl
    | ⟨1, _⟩ => rfl
  have hi : iota .tc S64x256 32 [1] iota_S64x256_d1_w32 (ix2 b w) = BitVec.ofNat 32 w.val :=
    iota_single_apply .tc S64x256 32 (1 : Fin 2) _ _
  show ((((IntOp.cmpi .eq (iota .tc S64x256 32 [1] iota_S64x256_d1_w32 (ix2 b w))
    (broadcastTo S64x256 (shapeCast S64x1 ids shapeCasts_S64x1_S64x1) broadcasts_S64x1_S64x256 (ix2 b w))).setWidth 32).toInt : ℝ) : EReal) = _
  rw [hi, hb]
  by_cases h : w = v
  · subst h
    rw [if_pos rfl]
    simp [IntOp.cmpi]
  · rw [if_neg h]
    have hne : BitVec.ofNat 32 w.val ≠ BitVec.ofNat 32 v.val := by
      intro e
      have e' := congrArg BitVec.toNat e
      rw [BitVec.toNat_ofNat, BitVec.toNat_ofNat, Nat.mod_eq_of_lt (by have := w.isLt; omega),
        Nat.mod_eq_of_lt (by have := v.isLt; omega)] at e'
      exact h (Fin.ext e')
    simp [IntOp.cmpi, beq_eq_false_iff_ne.2 hne]

/-- A gate is a sum over the 256 one-hot columns and a sum over the 512 hidden columns. -/
theorem gates_split (W : FVec Ideal S768x2048 .bf16) (ids : IVec S64x1 32) (h : FVec Ideal S64x512 .bf16) (b : Fin 64) (n : Fin 2048) :
    gates W ids h (ix2 b n)
      = (∑ w : Fin 256, oneHot ids (ix2 b w) * W (ix2 (Fin.castAdd 512 w : Fin 768) n))
        + ∑ k : Fin 512, h (ix2 b k) * W (ix2 (Fin.natAdd 256 k : Fin 768) n) := by
  have hm : gates W ids h (ix2 b n)
      = ∑ k : Fin 768, concatenate S64x768 1 [⟨S64x256, oneHot ids⟩, ⟨S64x512, h⟩] concatenates_S64x256_S64x512_S64x768_d1 (ix2 b k)
          * W (ix2 k n) := by
    unfold gates
    refine (Ideal.matmul_plain_apply (M := 64) (K := 768) (N := 2048) none _ _ _ b n).trans ?_
    rw [show (constant S64x2048 .f32 0x00000000#32 : FVec Ideal S64x2048 .f32) (ix2 b n) = 0 from Ideal.ofBits_zero_f32, zero_add]
  rw [hm]
  refine (Fin.sum_univ_add (a := 256) (b := 512) _).trans ?_
  refine congrArg₂ (· + ·) (Finset.sum_congr rfl fun w _ => ?_) (Finset.sum_congr rfl fun k _ => ?_)
  · refine congrArg (· * W (ix2 (Fin.castAdd 512 w : Fin 768) n)) ?_
    refine concatenate_pair_apply_left (t := S64x768) (s₁ := S64x256) (s₂ := S64x512) (1 : Fin 2) _ _ _ _ rfl (ix2 b w) fun a => ?_
    match a with
    | ⟨0, _⟩ => rfl
    | ⟨1, _⟩ => rfl
  · refine congrArg (· * W (ix2 (Fin.natAdd 256 k : Fin 768) n)) ?_
    refine concatenate_pair_apply_right (t := S64x768) (s₁ := S64x256) (s₂ := S64x512) (1 : Fin 2) _ _ _ _ rfl rfl (ix2 b k) (fun a ha => ?_) ?_
    · match a, ha with
      | ⟨0, _⟩, _ => rfl
      | ⟨1, _⟩, ha => exact absurd rfl ha
    · exact Nat.add_comm _ _

/-- The table's upper rows: the embedding times the input weights, plus the biases. -/
theorem table_upper (x1 : Vec Ideal S256x256 .f32) (x2 : Vec Ideal S256x2048 .f32) (x3 : Vec Ideal S512x2048 .bf16) (x4 : Vec Ideal S1x2048 .f32)
    (v : Fin 256) (n : Fin 2048) :
    table x1 x2 x3 x4 (ix2 (Fin.castAdd 512 v : Fin 768) n)
      = (∑ e : Fin 256, x1 (ix2 v e) * x2 (ix2 e n)) + x4 (ix2 (0 : Fin 1) n) := by
  have ht : table x1 x2 x3 x4 (ix2 (Fin.castAdd 512 v : Fin 768) n) = k0_pay1 x1 x2 x4 (ix2 v n) := by
    unfold table
    exact dif_pos v.isLt
  rw [ht]
  unfold k0_pay1
  rw [shapeCast_self, shapeCast_self, shapeCast_self]
  refine congrArg₂ (fun p q : EReal => p + q) ?_ ?_
  · refine (Ideal.matmul_plain_apply (M := 256) (K := 256) (N := 2048) none _ _ _ v n).trans ?_
    rw [show (constant S256x2048 .f32 0x00000000#32 : FVec Ideal S256x2048 .f32) (ix2 v n) = 0 from Ideal.ofBits_zero_f32, zero_add]
  · refine broadcastTo_apply _ _ _ _ fun a => ?_
    match a with
    | ⟨0, _⟩ => rfl
    | ⟨1, _⟩ => rfl

/-- The table's lower rows: the recurrent weights. -/
theorem table_lower (x1 : Vec Ideal S256x256 .f32) (x2 : Vec Ideal S256x2048 .f32) (x3 : Vec Ideal S512x2048 .bf16) (x4 : Vec Ideal S1x2048 .f32)
    (k : Fin 512) (n : Fin 2048) :
    table x1 x2 x3 x4 (ix2 (Fin.natAdd 256 k : Fin 768) n) = x3 (ix2 k n) := by
  unfold table
  refine (dif_neg (show ¬ 256 + k.val < 256 by omega)).trans ?_
  unfold k0_pay2
  rw [shapeCast_self, shapeCast_self]
  refine congrArg x3 (funext fun a => Fin.ext ?_)
  match a with
  | ⟨0, _⟩ => show 256 + k.val - 256 = k.val; omega
  | ⟨1, _⟩ => rfl

/-- The gates of batch element `b`, whose token is `v`. -/
theorem gates_apply (x1 : Vec Ideal S256x256 .f32) (x2 : Vec Ideal S256x2048 .f32) (x3 : Vec Ideal S512x2048 .bf16) (x4 : Vec Ideal S1x2048 .f32)
    (ids : IVec S64x1 32) (h : FVec Ideal S64x512 .bf16) (b : Fin 64) (n : Fin 2048) (v : Fin 256)
    (hv : ids (ix2 b (0 : Fin 1)) = BitVec.ofNat 32 v.val) :
    gates (table x1 x2 x3 x4) ids h (ix2 b n)
      = ((∑ e : Fin 256, x1 (ix2 v e) * x2 (ix2 e n)) + x4 (ix2 (0 : Fin 1) n)) + ∑ k : Fin 512, h (ix2 b k) * x3 (ix2 k n) := by
  rw [gates_split]
  refine congrArg₂ (· + ·) ?_ (Finset.sum_congr rfl fun k _ => by rw [table_lower])
  rw [Finset.sum_eq_single v, oneHot_apply ids b v v hv, if_pos rfl, table_upper]
  · exact one_mul _
  · intro w _ hw
    rw [oneHot_apply ids b v w hv, if_neg hw]
    exact zero_mul _
  · exact fun h => absurd (Finset.mem_univ v) h

/-- The kernel's dense head. -/
theorem pay7_apply (h : FVec Ideal S64x512 .bf16) (x5 : Vec Ideal S512x256 .f32) (x6 : Vec Ideal S1x256 .f32) (b : Fin 64) (o : Fin 256) :
    k0_pay7 h x5 x6 (ix2 b o) = (∑ k : Fin 512, h (ix2 b k) * x5 (ix2 k o)) + x6 (ix2 (0 : Fin 1) o) := by
  unfold k0_pay7
  rw [shapeCast_self, shapeCast_self]
  refine congrArg₂ (fun p q : EReal => p + q) ?_ ?_
  · refine (Ideal.matmul_plain_apply (M := 64) (K := 512) (N := 256) none _ _ _ b o).trans ?_
    rw [show (constant S64x256 .f32 0x00000000#32 : FVec Ideal S64x256 .f32) (ix2 b o) = 0 from Ideal.ofBits_zero_f32, zero_add]
    rfl
  · refine broadcastTo_apply _ _ _ _ fun a => ?_
    match a with
    | ⟨0, _⟩ => rfl
    | ⟨1, _⟩ => rfl

end Cert.KernelIdeal.Hand

end
-- ==== Proof.Arr.lean ====
/- The array the kernel's call leaves, as a function of the seven arrays it is given: each of the call's blocks is a whole
   array, so what the one run leaves in the output's buffer is the output array. -/
module

public import proofs.«01_k».proof.Proof.Body

@[expose] public section

noncomputable section

namespace Cert.KernelIdeal.Hand

open Cert.KernelIdeal Cert.KernelIdeal.Gen Cert.KernelIdeal.Value Idealize.ShloMosaic Idealize.ShloMosaic.TcCoe Idealize.SL.Sem
open Idealize.ShloMosaic.ValueIdx

variable {F : FTy → Type} [FloatOps F] (m : (ℓ : Loc nD τ sig) → Buf (Elt F) ℓ) (c : Dev nD) (t : Fin cfg0.N)

/-- A position inside an array, counted from the block at index zero, is the position itself. -/
theorem at_zero (size x : ℕ) : 0 * size + 1 * x = x := by omega

/-- The column of tokens is read whole. -/
theorem iblk0_eq : iblk m c 0 t = V m c main_v1 := by
  funext j
  refine congrArg (V m c main_v1) (funext fun a => Fin.ext ?_)
  match a with
  | ⟨0, _⟩ => exact at_zero _ _
  | ⟨1, _⟩ => exact at_zero _ _

/-- The embedding is read whole. -/
theorem iblk1_eq : iblk m c 1 t = V m c main_arg1 := by
  funext j
  refine congrArg (V m c main_arg1) (funext fun a => Fin.ext ?_)
  match a with
  | ⟨0, _⟩ => exact at_zero _ _
  | ⟨1, _⟩ => exact at_zero _ _

/-- The transposed input weights are read whole. -/
theorem iblk2_eq : iblk m c 2 t = V m c main_v2 := by
  funext j
  refine congrArg (V m c main_v2) (funext fun a => Fin.ext ?_)
  match a with
  | ⟨0, _⟩ => exact at_zero _ _
  | ⟨1, _⟩ => exact at_zero _ _

/-- The transposed recurrent weights are read whole. -/
theorem iblk3_eq : iblk m c 3 t = V m c main_v4 := by
  funext j
  refine congrArg (V m c main_v4) (funext fun a => Fin.ext ?_)
  match a with
  | ⟨0, _⟩ => exact at_zero _ _
  | ⟨1, _⟩ => exact at_zero _ _

/-- The summed biases are read whole. -/
theorem iblk4_eq : iblk m c 4 t = V m c main_v7 := by
  funext j
  refine congrArg (V m c main_v7) (funext fun a => Fin.ext ?_)
  match a with
  | ⟨0, _⟩ => exact at_zero _ _
  | ⟨1, _⟩ => exact at_zero _ _

/-- The head's transposed weights are read whole. -/
theorem iblk5_eq : iblk m c 5 t = V m c main_v5 := by
  funext j
  refine congrArg (V m c main_v5) (funext fun a => Fin.ext ?_)
  match a with
  | ⟨0, _⟩ => exact at_zero _ _
  | ⟨1, _⟩ => exact at_zero _ _

/-- The head's bias is read whole. -/
theorem iblk6_eq : iblk m c 6 t = V m c main_v8 := by
  funext j
  refine congrArg (V m c main_v8) (funext fun a => Fin.ext ?_)
  match a with
  | ⟨0, _⟩ => exact at_zero _ _
  | ⟨1, _⟩ => exact at_zero _ _

/-- An index of the output's block is the same index of the output array. -/
theorem emb7 (j : S64x256.Idx) : ((cfg0.win 7).blk t).view.emb j = j := by
  refine funext fun a => Fin.ext ?_
  match a with
  | ⟨0, _⟩ => exact at_zero _ _
  | ⟨1, _⟩ => exact at_zero _ _

/-- The call's result, of the arrays it is given. -/
def given : FVec F S64x256 .f32 :=
  result (V m c main_v1) (V m c main_arg1) (V m c main_v2) (V m c main_v4) (V m c main_v7) (V m c main_v5) (V m c main_v8)

/-- The one grid point writes the call's result back. -/
theorem flushed_eq : (dats m 0 c).flushed 7 t = ((cfg0.win 7).blk t).view.read (Elt F) (given m c) := by
  rw [flushed7_A, out_eq, iblk0_eq, iblk1_eq, iblk2_eq, iblk3_eq, iblk4_eq, iblk5_eq, iblk6_eq]
  funext j
  show given m c j = given m c (((cfg0.win 7).blk t).view.emb j)
  rw [emb7]

/-- The output array after the call is its result. -/
theorem arr_eq : (dats m 0 c).arrAt 7 cfg0.N = given m c :=
  (dats m 0 c).arrAt_eq_of_cover 7 (given m c) (fun t _ => flushed_eq m c t) fun i =>
    ⟨(⟨0, by decide⟩ : Fin cfg0.N), flush0_7 _, by
      have h := ((cfg0.win 7).blk (⟨0, by decide⟩ : Fin cfg0.N)).view.emb_mem_set i; rwa [emb7] at h⟩

end Cert.KernelIdeal.Hand

end
-- ==== Proof.Operands.lean ====
/- The arrays the kernel's call is given, read at an index as the arguments of @main: the tokens laid out time by time, the
   transposed weights, the two biases added, the head's bias as a row. -/
module

public import proofs.«01_k».proof.Proof.Arr

@[expose] public section

noncomputable section

namespace Cert.KernelIdeal.Hand

open Cert.KernelIdeal Cert.KernelIdeal.Gen Idealize.ShloMosaic Idealize.ShloMosaic.TcCoe Idealize.SL.Sem
open Idealize.ShloMosaic.ValueIdx

variable {F : FTy → Type} [FloatOps F] (m : (ℓ : Loc nD τ sig) → Buf (Elt F) ℓ) (c : Dev nD)

/-- The column of tokens is the transposed token array, reshaped. -/
theorem V1_eq : V m c main_v1 = shapeCast S16384x1 (transpose S256x64 [1, 0] (m ((c : Thread nD τ).loc main_arg0))
    transposes_S64x256_S256x64_1_0) shapeCasts_S256x64_S16384x1 := by
  unfold_abbrev_sides
  after_results
  rfl

/-- The input weights are given transposed. -/
theorem V2_eq : V m c main_v2 = transpose S256x2048 [1, 0] (m ((c : Thread nD τ).loc main_arg2)) transposes_S2048x256_S256x2048_1_0 := by
  unfold_abbrev_sides
  after_results

/-- The recurrent weights are given transposed, in the narrower format. -/
theorem V4_eq : V m c main_v4 = truncf .bf16 (transpose S512x2048 [1, 0] (m ((c : Thread nD τ).loc main_arg3))
    transposes_S2048x512_S512x2048_1_0) bitsLt_bf16_f32 := by
  unfold_abbrev_sides
  after_results

/-- The head's weights are given transposed. -/
theorem V5_eq : V m c main_v5 = transpose S512x256 [1, 0] (m ((c : Thread nD τ).loc main_arg6)) transposes_S256x512_S512x256_1_0 := by
  unfold_abbrev_sides
  after_results

/-- The gates' biases are given added, as a row. -/
theorem V7_eq : V m c main_v7 = shapeCast S1x2048 (addf (m ((c : Thread nD τ).loc main_arg4)) (m ((c : Thread nD τ).loc main_arg5)))
    shapeCasts_S2048_S1x2048 := by
  unfold_abbrev_sides
  after_results
  rfl

/-- The head's bias is given as a row. -/
theorem V8_eq : V m c main_v8 = shapeCast S1x256 (m ((c : Thread nD τ).loc main_arg7)) shapeCasts_S256_S1x256 := by
  unfold_abbrev_sides
  after_results
  rfl

/-- Row `b` of the 64 tokens of time `t` is the token array at batch element `b` and time `t`. -/
theorem tokens_apply (a0 : IVec S64x256 32) (t : Fin 256) (b : Fin 64) :
    tokens (shapeCast S16384x1 (transpose S256x64 [1, 0] a0 transposes_S64x256_S256x64_1_0) shapeCasts_S256x64_S16384x1) t.val
      (ix2 b (0 : Fin 1)) = a0 (ix2 b t) := by
  unfold tokens
  refine (shapeCast_apply _ _ _ (ix2 t b) ?_).trans ?_
  · rw [Shape.rowMajor_val_two, Shape.rowMajor_val_two]
    show t.val * 64 + b.val = (64 * t.val + b.val) % 16384 * 1 + 0
    have := t.isLt
    have := b.isLt
    omega
  · refine transpose_apply _ _ _ _ _ fun a => ?_
    match a with
    | ⟨0, _⟩ => rfl
    | ⟨1, _⟩ => rfl

/-- The transposed input weights at an index. -/
theorem wih_apply (a2 : FVec F S2048x256 .f32) (e : Fin 256) (n : Fin 2048) :
    transpose S256x2048 [1, 0] a2 transposes_S2048x256_S256x2048_1_0 (ix2 e n) = a2 (ix2 n e) := by
  refine transpose_apply _ _ _ _ _ fun a => ?_
  match a with
  | ⟨0, _⟩ => rfl
  | ⟨1, _⟩ => rfl

/-- The transposed recurrent weights at an index. -/
theorem whh_apply (a3 : FVec F S2048x512 .f32) (k : Fin 512) (n : Fin 2048) :
    transpose S512x2048 [1, 0] a3 transposes_S2048x512_S512x2048_1_0 (ix2 k n) = a3 (ix2 n k) := by
  refine transpose_apply _ _ _ _ _ fun a => ?_
  match a with
  | ⟨0, _⟩ => rfl
  | ⟨1, _⟩ => rfl

/-- The head's transposed weights at an index. -/
theorem wfc_apply (a6 : FVec F S256x512 .f32) (k : Fin 512) (o : Fin 256) :
    transpose S512x256 [1, 0] a6 transposes_S256x512_S512x256_1_0 (ix2 k o) = a6 (ix2 o k) := by
  refine transpose_apply _ _ _ _ _ fun a => ?_
  match a with
  | ⟨0, _⟩ => rfl
  | ⟨1, _⟩ => rfl

/-- The gates' bias row at a column. -/
theorem bias_row_apply (x : FVec F S2048 .f32) (n : Fin 2048) :
    shapeCast S1x2048 x shapeCasts_S2048_S1x2048 (ix2 (0 : Fin 1) n) = x (ix1 n) := by
  refine shapeCast_apply _ _ _ _ ?_
  rw [Shape.rowMajor_val_two, Shape.rowMajor_val_one]
  show n.val = 0 * 2048 + n.val
  omega

/-- The head's bias row at a column. -/
theorem head_row_apply (x : FVec F S256 .f32) (o : Fin 256) :
    shapeCast S1x256 x shapeCasts_S256_S1x256 (ix2 (0 : Fin 1) o) = x (ix1 o) := by
  refine shapeCast_apply _ _ _ _ ?_
  rw [Shape.rowMajor_val_two, Shape.rowMajor_val_one]
  show o.val = 0 * 256 + o.val
  omega

end Cert.KernelIdeal.Hand

end
-- ==== Proof.Lookup.lean ====
/- The reference's embedding lookup: at the time and the batch element whose token is `v` it is row `v` of the embedding; and
   the token range read out of the precondition. -/
module

public import proofs.«01_k».proof.Proof.Gen.ReferenceIdeal.Step
public import proofs.«01_k».proof.Pre_tokens_in_vocab
public import Idealize.ShloMosaic.Lib.ValueIdxCore
public import Idealize.ShloMosaic.Lib.DynamicIndex
public import Idealize.ShloMosaic.Lib.Pipeline.Value

@[expose] public section

noncomputable section

namespace Cert.ReferenceIdeal.Hand

open Cert.ReferenceIdeal Cert.ReferenceIdeal.Gen Cert.ReferenceIdeal.Step Idealize.ShloMosaic
open Idealize.ShloMosaic.ValueIdx

variable {F : FTy → Type} [FloatOps F]

/-- A word that is at least 0 and below 256, both read signed, is one of the numbers 0 … 255. -/
theorem word_of_range (x : BitVec 32) (h0 : IntOp.cmpi .sge x 0#32 = 1#1) (h1 : IntOp.cmpi .slt x 256#32 = 1#1) :
    ∃ v : Fin 256, x = BitVec.ofNat 32 v.val := by
  have a0 : BitVec.ofBool ((0#32).sle x) = 1#1 := h0
  have a1 : BitVec.ofBool (x.slt 256#32) = 1#1 := h1
  have b0 : (0#32).sle x = true := by
    cases e : (0#32).sle x with
    | true => rfl
    | false => rw [e] at a0; exact absurd a0 (by decide)
  have b1 : x.slt 256#32 = true := by
    cases e : x.slt 256#32 with
    | true => rfl
    | false => rw [e] at a1; exact absurd a1 (by decide)
  have c0 : (0#32).toInt ≤ x.toInt := of_decide_eq_true b0
  have c1 : x.toInt < (256#32).toInt := of_decide_eq_true b1
  have d0 : (0#32).toInt = 0 := by decide
  have d1 : (256#32).toInt = 256 := by decide
  rw [d0] at c0
  rw [d1] at c1
  have hx := BitVec.toInt_eq_toNat_cond x
  have hlt := x.isLt
  have hv : x.toNat < 256 := by
    split at hx <;> omega
  exact ⟨⟨x.toNat, hv⟩, BitVec.eq_of_toNat_eq (by rw [BitVec.toNat_ofNat, Nat.mod_eq_of_lt hlt])⟩

/-- Where a precondition's two comparisons hold everywhere, every token is one of 0 … 255. -/
theorem tokens_of_pre [Cert.Pre_tokens_in_vocab.Facts] (a0 : IVec S64x256 32) (a1 : FVec F S256x256 .f32) (a2 : FVec F S2048x256 .f32)
    (a3 : FVec F S2048x512 .f32) (a4 : FVec F S2048 .f32) (a5 : FVec F S2048 .f32) (a6 : FVec F S256x512 .f32) (a7 : FVec F S256 .f32)
    (h : Cert.Pre_tokens_in_vocab.fn a0 a1 a2 a3 a4 a5 a6 a7 = fun _ => 1#1) (i : S64x256.Idx) :
    ∃ v : Fin 256, a0 i = BitVec.ofNat 32 v.val := by
  have hi : IntOp.cmpi .sge (a0 i) 0#32 &&& IntOp.cmpi .slt (a0 i) 256#32 = 1#1 := congrFun h i
  have split : ∀ p q : BitVec 1, p &&& q = 1#1 → p = 1#1 ∧ q = 1#1 := by decide
  obtain ⟨h0, h1⟩ := split _ _ hi
  exact word_of_range _ h0 h1

/-- Such a token is not negative, so the lookup's index is the token itself. -/
theorem index_eq (a0 : IVec S64x256 32) (a1 : FVec F S256x256 .f32) (b : Fin 64) (t : Fin 256) (v : Fin 256)
    (hv : a0 (ix2 b t) = BitVec.ofNat 32 v.val) :
    A_main_v5 (F := F) a0 a1 (ix3 b t (0 : Fin 1)) = BitVec.ofNat 32 v.val := by
  have h5 : A_main_v5 (F := F) a0 a1 (ix3 b t (0 : Fin 1)) = A_main_v4 (F := F) a0 a1 (ix2 b t) := by
    unfold A_main_v5
    refine broadcastInDim_apply _ _ _ _ _ fun a => ?_
    match a with
    | ⟨0, _⟩ => rfl
    | ⟨1, _⟩ => rfl
  rw [h5, ← hv]
  have hn : 0 ≤ (a0 (ix2 b t)).toInt := by
    rw [hv, toInt_ofNat_of_lt (by have := v.isLt; omega)]
    exact Int.natCast_nonneg _
  exact select_slt_zero_of_nonneg a0 _ a0 (ix2 b t) hn

/-- The gather reads the row its index names. -/
theorem gather_eq (x : FVec F S256x256 .f32) (idx : IVec S64x256x1 32) (b : Fin 64) (t e : Fin 256) (v : Fin 256)
    (hv : idx (ix3 b t (0 : Fin 1)) = BitVec.ofNat 32 v.val) :
    Host.gather gather_S256x256_S64x256x1_S64x256x256_2_0_n_n_0_2_1256 x idx (ix3 b t e) = x (ix2 v e) := by
  unfold Host.gather
  refine congrArg x (funext fun a => Fin.ext ?_)
  match a with
  | ⟨0, _⟩ =>
    show gather_S256x256_S64x256x1_S64x256x256_2_0_n_n_0_2_1256.start (ix3 b t e) idx 0
      + gather_S256x256_S64x256x1_S64x256x256_2_0_n_n_0_2_1256.batchCoord (ix3 b t e) 0
      + gather_S256x256_S64x256x1_S64x256x256_2_0_n_n_0_2_1256.offCoord (ix3 b t e) 0 = v.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S256x256_S64x256x1_S64x256x256_2_0_n_n_0_2_1256.startIndexMap from List.mem_singleton.mpr rfl)]
    have hsi : gather_S256x256_S64x256x1_S64x256x256_2_0_n_n_0_2_1256.siIdx (ix3 b t e)
        ⟨List.idxOf (0 : Fin 2) gather_S256x256_S64x256x1_S64x256x256_2_0_n_n_0_2_1256.startIndexMap,
          List.idxOf_lt_length_iff.2 (List.mem_singleton.mpr rfl)⟩ = ix3 b t (0 : Fin 1) := by
      funext a'
      refine Fin.ext ?_
      match a' with
      | ⟨0, _⟩ => rfl
      | ⟨1, _⟩ => rfl
      | ⟨2, _⟩ => rfl
    rw [hsi, hv, toInt_ofNat_of_lt (by have := v.isLt; omega)]
    show min ((v.val : Int)).toNat 255 = v.val
    have := v.isLt
    omega
  | ⟨1, _⟩ =>
    show gather_S256x256_S64x256x1_S64x256x256_2_0_n_n_0_2_1256.start (ix3 b t e) idx 1
      + gather_S256x256_S64x256x1_S64x256x256_2_0_n_n_0_2_1256.batchCoord (ix3 b t e) 1
      + gather_S256x256_S64x256x1_S64x256x256_2_0_n_n_0_2_1256.offCoord (ix3 b t e) 1 = e.val
    rw [GatherDims.batchCoord_eq_zero _ _ _ List.not_mem_nil, Nat.add_zero]
    unfold GatherDims.start
    rw [dif_neg (show ¬ (1 : Fin 2) ∈ gather_S256x256_S64x256x1_S64x256x256_2_0_n_n_0_2_1256.startIndexMap from by
      show ¬ (1 : Fin 2) ∈ [(0 : Fin 2)]
      decide), Nat.zero_add]
    rfl

/-- The scanned sequence: at time `t` and batch element `b`, whose token is `v`, row `v` of the embedding. -/
theorem sequence_apply (a0 : IVec S64x256 32) (a1 : FVec F S256x256 .f32) (b : Fin 64) (t e : Fin 256) (v : Fin 256)
    (hv : a0 (ix2 b t) = BitVec.ofNat 32 v.val) :
    A_main_v7 (F := F) a0 a1 (ix3 t b e) = a1 (ix2 v e) := by
  have h7 : A_main_v7 (F := F) a0 a1 (ix3 t b e) = A_main_v6 (F := F) a0 a1 (ix3 b t e) := by
    unfold A_main_v7
    refine transpose_apply _ _ _ _ _ fun a => ?_
    match a with
    | ⟨0, _⟩ => rfl
    | ⟨1, _⟩ => rfl
    | ⟨2, _⟩ => rfl
  rw [h7]
  exact gather_eq a1 _ b t e v (index_eq a0 a1 b t v hv)

/-- The input of step `j`: the sequence at time `j`. -/
theorem input_apply (j : Fin 256) (s : State F) (b : Fin 64) (e : Fin 256) :
    b3 j.val s (ix2 b e) = s.main_v10_0 (ix3 j b e) := by
  have hj := j.isLt
  have h3 : b3 j.val s (ix2 b e) = b2 j.val s (ix3 (0 : Fin 1) b e) := by
    unfold b3
    refine shapeCast_apply _ _ _ _ ?_
    rw [Shape.rowMajor_val_three, Shape.rowMajor_val_two]
    show (0 * 64 + b.val) * 256 + e.val = b.val * 256 + e.val
    omega
  rw [h3]
  unfold b2
  have hs : S256x64x256.Slices ![j.val, 0, 0] S1x64x256 := ⟨rfl, fun a => by
    match a with
    | ⟨0, _⟩ => show j.val + 1 ≤ 256; omega
    | ⟨1, _⟩ => exact Nat.le_refl _
    | ⟨2, _⟩ => exact Nat.le_refl _⟩
  rw [Host.dynamicSlice_eq_extractStridedSlice S1x64x256 _ _ ![j.val, 0, 0] _ hs (fun a => by
    match a with
    | ⟨0, _⟩ => exact toInt_ofNat_of_lt (by omega)
    | ⟨1, _⟩ => rfl
    | ⟨2, _⟩ => rfl)]
  refine congrArg s.main_v10_0 (funext fun a => Fin.ext ?_)
  match a with
  | ⟨0, _⟩ => exact Nat.add_zero _
  | ⟨1, _⟩ => exact Nat.zero_add _
  | ⟨2, _⟩ => exact Nat.zero_add _

end Cert.ReferenceIdeal.Hand

end
-- ==== Proof.RefStep.lean ====
/- One step of the reference over the extended reals: its gates as sums, and its sigmoids as logistic functions. -/
module

public import proofs.«01_k».proof.Proof.Gen.ReferenceIdeal.Step
public import Idealize.ShloMosaic.Lib.ValueIdxCore
public import Idealize.ShloMosaic.Lib.StackMember
public import Idealize.ShloMosaic.Lib.IdealHost

@[expose] public section

noncomputable section

open scoped BigOperators

namespace Cert.ReferenceIdeal.Hand

open Cert.ReferenceIdeal Cert.ReferenceIdeal.Gen Cert.ReferenceIdeal.Step Idealize.ShloMosaic
open Idealize.ShloMosaic.ValueIdx

variable (j : ℕ) (s : State Ideal)

/-- The bias row that a step adds, read at a column. -/
theorem bias_apply (x : FVec Ideal S2048 .f32) (b : Fin 64) (n : Fin 2048) :
    broadcastInDim S64x2048 ![0, 1] bcast_S1x2048_S64x2048_0_1 (broadcastInDim S1x2048 ![1] bcast_S2048_S1x2048_1 x) (ix2 b n)
      = x (ix1 n) := by
  refine (broadcastInDim_apply _ _ _ (ix2 b n) (ix2 (0 : Fin 1) n) fun a => ?_).trans
    (broadcastInDim_apply _ _ x (ix2 (0 : Fin 1) n) (ix1 n) fun a => ?_)
  · match a with
    | ⟨0, _⟩ => rfl
    | ⟨1, _⟩ => rfl
  · match a with
    | ⟨0, _⟩ => rfl

/-- The step's input times the transposed input weights. -/
theorem b5_apply (b : Fin 64) (n : Fin 2048) :
    b5 j s (ix2 b n) = ∑ e : Fin 256, b3 j s (ix2 b e) * s.main_v10_1 (ix2 n e) := by
  refine (StackMember.dotGeneral_plain_apply (m := 64) (n := 2048) (k := 256) none (b3 j s) (b4 j s) b n).trans ?_
  refine Finset.sum_congr rfl fun e _ => congrArg (b3 j s (ix2 b e) * ·) ?_
  refine transpose_apply _ _ _ _ _ fun a => ?_
  match a with
  | ⟨0, _⟩ => rfl
  | ⟨1, _⟩ => rfl

/-- The hidden state times the transposed recurrent weights. -/
theorem b10_apply (b : Fin 64) (n : Fin 2048) :
    b10 j s (ix2 b n) = ∑ k : Fin 512, s.main_v10_6 (ix2 b k) * s.main_v10_3 (ix2 n k) := by
  refine (StackMember.dotGeneral_plain_apply (m := 64) (n := 2048) (k := 512) none s.main_v10_6 (b9 j s) b n).trans ?_
  refine Finset.sum_congr rfl fun e _ => congrArg (s.main_v10_6 (ix2 b e) * ·) ?_
  refine transpose_apply _ _ _ _ _ fun a => ?_
  match a with
  | ⟨0, _⟩ => rfl
  | ⟨1, _⟩ => rfl

/-- The gates of a step. -/
theorem b14_apply (b : Fin 64) (n : Fin 2048) :
    b14 j s (ix2 b n)
      = (((∑ e : Fin 256, b3 j s (ix2 b e) * s.main_v10_1 (ix2 n e)) + s.main_v10_2 (ix1 n))
          + ∑ k : Fin 512, s.main_v10_6 (ix2 b k) * s.main_v10_3 (ix2 n k)) + s.main_v10_4 (ix1 n) := by
  rw [← b5_apply, ← b10_apply, ← bias_apply s.main_v10_2 b n, ← bias_apply s.main_v10_4 b n]
  rfl

/-- One divided by one plus the exponential of the negated argument is the logistic function. -/
theorem sigmoid_eq (x : FVec Ideal S64x512 .f32) :
    Host.divf (broadcastInDim S64x512 ![] bcast_S_S64x512 (constant S_ .f32 0x3F800000#32))
        (addf (broadcastInDim S64x512 ![] bcast_S_S64x512 (constant S_ .f32 0x3F800000#32)) (Host.exp (Host.negf x)))
      = logistic x := by
  funext i
  show Ideal.div (Ideal.ofBits .f32 0x3F800000#32) (Ideal.ofBits .f32 0x3F800000#32 + Ideal.exp (-(x i))) = Ideal.logistic (x i)
  rw [Ideal.ofBits_one_f32]
  rfl

/-- The next cell state: the forget gate times the old one, plus the input gate times the candidate. -/
theorem b46_eq :
    b46 j s = addf (mulf (logistic (b16 j s)) s.main_v10_7) (mulf (logistic (b15 j s)) (tanh (b17 j s))) := by
  rw [← sigmoid_eq, ← sigmoid_eq]
  rfl

/-- The next hidden state: the output gate times the new cell state's hyperbolic tangent. -/
theorem b48_eq : b48 j s = mulf (logistic (b18 j s)) (tanh (b46 j s)) := by
  rw [← sigmoid_eq]
  rfl

/-- The reference's state before trip `n`. -/
def states (s0 : State Ideal) : ℕ → State Ideal
  | 0 => s0
  | n + 1 => step n (states s0 n)

/-- No trip changes the sequence, the weights or the biases. -/
theorem states_kept (s0 : State Ideal) (n : ℕ) :
    (states s0 n).main_v10_0 = s0.main_v10_0 ∧ (states s0 n).main_v10_1 = s0.main_v10_1 ∧ (states s0 n).main_v10_2 = s0.main_v10_2
      ∧ (states s0 n).main_v10_3 = s0.main_v10_3 ∧ (states s0 n).main_v10_4 = s0.main_v10_4 := by
  induction n with
  | zero => exact ⟨rfl, rfl, rfl, rfl, rfl⟩
  | succ n ih => exact ih

/-- The logits: the last hidden state times the head's transposed weights, plus the head's bias. -/
theorem head_apply (s : State Ideal) (a6 : FVec Ideal S256x512 .f32) (a7 : FVec Ideal S256 .f32) (b : Fin 64) (o : Fin 256) :
    R_main_v15 s a6 a7 (ix2 b o) = (∑ k : Fin 512, s.main_v10_6 (ix2 b k) * a6 (ix2 o k)) + a7 (ix1 o) := by
  unfold R_main_v15
  refine congrArg₂ (fun p q : EReal => p + q) ?_ ?_
  · refine (StackMember.dotGeneral_plain_apply (m := 64) (n := 256) (k := 512) none s.main_v10_6 _ b o).trans ?_
    refine Finset.sum_congr rfl fun k _ => congrArg (s.main_v10_6 (ix2 b k) * ·) ?_
    refine transpose_apply _ _ _ _ _ fun a => ?_
    match a with
    | ⟨0, _⟩ => rfl
    | ⟨1, _⟩ => rfl
  · refine (broadcastInDim_apply _ _ _ (ix2 b o) (ix2 (0 : Fin 1) o) fun a => ?_).trans
      (broadcastInDim_apply _ _ a7 (ix2 (0 : Fin 1) o) (ix1 o) fun a => ?_)
    · match a with
      | ⟨0, _⟩ => rfl
      | ⟨1, _⟩ => rfl
    · match a with
      | ⟨0, _⟩ => rfl

end Cert.ReferenceIdeal.Hand

end
-- ==== Proof.Equation.lean ====
/- The equation: over the extended reals, on arrays whose tokens are all in the vocabulary, the kernel's states are the
   reference's states after every step, and so the logits are equal. -/
module

public import proofs.«01_k».proof.Proof.Gates
public import proofs.«01_k».proof.Proof.Operands
public import proofs.«01_k».proof.Proof.Lookup
public import proofs.«01_k».proof.Proof.RefStep

@[expose] public section

noncomputable section

open scoped BigOperators

namespace Cert.Equation

open Cert.KernelIdeal (S64x1 S64x256 S256x256 S2048x256 S2048x512 S2048 S256x512 S256 S64x512 S64x2048 S16384x1 S256x2048 S512x2048 S1x2048
  S512x256 S1x256 S768x2048)
open Cert.KernelIdeal.Gen Cert.KernelIdeal.Hand Idealize.ShloMosaic Idealize.ShloMosaic.ValueIdx

variable (a0 : IVec S64x256 32) (a1 : FVec Ideal S256x256 .f32) (a2 : FVec Ideal S2048x256 .f32) (a3 : FVec Ideal S2048x512 .f32)
  (a4 a5 : FVec Ideal S2048 .f32) (a6 : FVec Ideal S256x512 .f32) (a7 : FVec Ideal S256 .f32)

/-- The column of tokens the call is given. -/
def tokenColumn : IVec S16384x1 32 :=
  shapeCast S16384x1 (transpose Cert.KernelIdeal.S256x64 [1, 0] a0 Cert.KernelIdeal.Gen.transposes_S64x256_S256x64_1_0)
    Cert.KernelIdeal.Gen.shapeCasts_S256x64_S16384x1

/-- The transposed input weights. -/
def inputWeights : FVec Ideal S256x2048 .f32 := transpose S256x2048 [1, 0] a2 Cert.KernelIdeal.Gen.transposes_S2048x256_S256x2048_1_0

/-- The transposed recurrent weights. -/
def hiddenWeights : FVec Ideal S512x2048 .bf16 :=
  truncf .bf16 (transpose S512x2048 [1, 0] a3 Cert.KernelIdeal.Gen.transposes_S2048x512_S512x2048_1_0) Cert.KernelIdeal.Gen.bitsLt_bf16_f32

/-- The two biases added, as a row. -/
def biasRow : FVec Ideal S1x2048 .f32 := shapeCast S1x2048 (addf a4 a5) Cert.KernelIdeal.Gen.shapeCasts_S2048_S1x2048

/-- The kernel's states after `n` steps. -/
def kernelStates (n : ℕ) : Carry Ideal :=
  cells (table a1 (inputWeights a2) (hiddenWeights a3) (biasRow a4 a5)) (tokens (tokenColumn a0)) (k0_pay3, k0_pay4) n

/-- The reference's state before trip `n`. -/
def referenceStates (n : ℕ) : Cert.ReferenceIdeal.Step.State Ideal :=
  Cert.ReferenceIdeal.Hand.states (Cert.ReferenceIdeal.Step.init a2 a4 a3 a5 a0 a1) n

/-- Both sides add the same products and the same two biases, the kernel the biases first. -/
theorem regroup (x h p q : EReal) : (x + (p + q)) + h = ((x + p) + h) + q := by
  rw [← add_assoc, add_assoc (x + p) q h, add_comm q h, ← add_assoc]

/-- The gates of a step agree where the hidden states agree. -/
theorem gates_eq (hv : ∀ i, ∃ v : Fin 256, a0 i = BitVec.ofNat 32 v.val) (n : Fin 256) (h : FVec Ideal S64x512 .bf16)
    (hh : ∀ i, (h i : EReal) = (referenceStates a0 a1 a2 a3 a4 a5 n.val).main_v10_6 i) :
    gates (table a1 (inputWeights a2) (hiddenWeights a3) (biasRow a4 a5)) (tokens (tokenColumn a0) n.val) h
      = Cert.ReferenceIdeal.Step.b14 n.val (referenceStates a0 a1 a2 a3 a4 a5 n.val) := by
  obtain ⟨k0, k1, k2, k3, k4⟩ := Cert.ReferenceIdeal.Hand.states_kept (Cert.ReferenceIdeal.Step.init a2 a4 a3 a5 a0 a1) n.val
  funext i
  rw [eq_ix2 i]
  generalize i 0 = b
  generalize i 1 = g
  obtain ⟨v, hvb⟩ := hv (ix2 b n)
  refine (gates_apply a1 (inputWeights a2) (hiddenWeights a3) (biasRow a4 a5) (tokens (tokenColumn a0) n.val) h b g v
    ((tokens_apply a0 n b).trans hvb)).trans ?_
  refine Eq.trans ?_ (Cert.ReferenceIdeal.Hand.b14_apply n.val (referenceStates a0 a1 a2 a3 a4 a5 n.val) b g).symm
  have hb : biasRow a4 a5 (ix2 (0 : Fin 1) g) = a4 (ix1 g) + a5 (ix1 g) := bias_row_apply (addf a4 a5) g
  have hx : (∑ e : Fin 256, a1 (ix2 v e) * inputWeights a2 (ix2 e g))
      = ∑ e : Fin 256, Cert.ReferenceIdeal.Step.b3 n.val (referenceStates a0 a1 a2 a3 a4 a5 n.val) (ix2 b e)
          * (referenceStates a0 a1 a2 a3 a4 a5 n.val).main_v10_1 (ix2 g e) := by
    refine Finset.sum_congr rfl fun e _ => congrArg₂ (fun p q : EReal => p * q) ?_ ?_
    · refine ((Cert.ReferenceIdeal.Hand.input_apply n (referenceStates a0 a1 a2 a3 a4 a5 n.val) b e).trans ?_).symm
      exact (congrFun k0 (ix3 n b e)).trans (Cert.ReferenceIdeal.Hand.sequence_apply a0 a1 b n e v hvb)
    · exact (wih_apply a2 e g).trans (congrFun k1 (ix2 g e)).symm
  have hr : (∑ k : Fin 512, h (ix2 b k) * hiddenWeights a3 (ix2 k g))
      = ∑ k : Fin 512, (referenceStates a0 a1 a2 a3 a4 a5 n.val).main_v10_6 (ix2 b k)
          * (referenceStates a0 a1 a2 a3 a4 a5 n.val).main_v10_3 (ix2 g k) := by
    refine Finset.sum_congr rfl fun k _ => congrArg₂ (fun p q : EReal => p * q) (hh (ix2 b k)) ?_
    exact (whh_apply a3 k g).trans (congrFun k3 (ix2 g k)).symm
  have hp : (referenceStates a0 a1 a2 a3 a4 a5 n.val).main_v10_2 (ix1 g) = a4 (ix1 g) := congrFun k2 (ix1 g)
  have hq : (referenceStates a0 a1 a2 a3 a4 a5 n.val).main_v10_4 (ix1 g) = a5 (ix1 g) := congrFun k4 (ix1 g)
  rw [hb, hx, hr, hp, hq]
  exact regroup _ _ _ _

/-- The cell state a step makes of equal gates and equal cell states. -/
theorem nextC_eq (n : ℕ) (s : Cert.ReferenceIdeal.Step.State Ideal) :
    nextC (Cert.ReferenceIdeal.Step.b14 n s) s.main_v10_7 = Cert.ReferenceIdeal.Step.b46 n s := by
  rw [Cert.ReferenceIdeal.Hand.b46_eq]
  rfl

/-- The hidden state a step makes of equal gates and equal cell states. -/
theorem nextH_eq (n : ℕ) (s : Cert.ReferenceIdeal.Step.State Ideal) (i : S64x512.Idx) :
    (nextH (Cert.ReferenceIdeal.Step.b14 n s) s.main_v10_7 i : EReal) = Cert.ReferenceIdeal.Step.b48 n s i := by
  rw [Cert.ReferenceIdeal.Hand.b48_eq, ← nextC_eq]
  rfl

/-- After each of the 256 steps the two hidden states and the two cell states agree. -/
theorem states_eq (hv : ∀ i, ∃ v : Fin 256, a0 i = BitVec.ofNat 32 v.val) (n : ℕ) (hn : n ≤ 256) :
    (∀ i, ((kernelStates a0 a1 a2 a3 a4 a5 n).1 i : EReal) = (referenceStates a0 a1 a2 a3 a4 a5 n).main_v10_6 i)
      ∧ (kernelStates a0 a1 a2 a3 a4 a5 n).2 = (referenceStates a0 a1 a2 a3 a4 a5 n).main_v10_7 := by
  induction n with
  | zero =>
    refine ⟨fun i => ?_, rfl⟩
    show Ideal.ofBits .bf16 0x0000#16 = Ideal.ofBits .f32 0x00000000#32
    rw [Ideal.ofBits_zero_bf16, Ideal.ofBits_zero_f32]
  | succ n ih =>
    obtain ⟨hh, hc⟩ := ih (Nat.le_of_succ_le hn)
    have hg := gates_eq a0 a1 a2 a3 a4 a5 hv ⟨n, hn⟩ _ hh
    refine ⟨fun i => ?_, ?_⟩
    · refine Eq.trans ?_ (nextH_eq n (referenceStates a0 a1 a2 a3 a4 a5 n) i)
      show nextH (gates _ _ (kernelStates a0 a1 a2 a3 a4 a5 n).1) (kernelStates a0 a1 a2 a3 a4 a5 n).2 i = _
      rw [hc]
      exact congrArg (fun g => nextH g (referenceStates a0 a1 a2 a3 a4 a5 n).main_v10_7 i) hg
    · refine Eq.trans ?_ (nextC_eq n (referenceStates a0 a1 a2 a3 a4 a5 n))
      show nextC (gates _ _ (kernelStates a0 a1 a2 a3 a4 a5 n).1) (kernelStates a0 a1 a2 a3 a4 a5 n).2 = _
      rw [hc]
      exact congrArg (fun g => nextC g (referenceStates a0 a1 a2 a3 a4 a5 n).main_v10_7) hg

/-- The kernel's logits are the reference's. -/
theorem logits_eq (hv : ∀ i, ∃ v : Fin 256, a0 i = BitVec.ofNat 32 v.val) :
    result (F := Ideal) (tokenColumn a0) a1 (inputWeights a2) (hiddenWeights a3) (biasRow a4 a5)
        (transpose S512x256 [1, 0] a6 Cert.KernelIdeal.Gen.transposes_S256x512_S512x256_1_0)
        (shapeCast S1x256 a7 Cert.KernelIdeal.Gen.shapeCasts_S256_S1x256)
      = Cert.ReferenceIdeal.Step.R_main_v15 (referenceStates a0 a1 a2 a3 a4 a5 256) a6 a7 := by
  obtain ⟨hh, _⟩ := states_eq a0 a1 a2 a3 a4 a5 hv 256 (Nat.le_refl _)
  funext i
  rw [eq_ix2 i]
  generalize i 0 = b
  generalize i 1 = o
  refine (pay7_apply (kernelStates a0 a1 a2 a3 a4 a5 256).1 _ _ b o).trans ?_
  refine Eq.trans ?_ (Cert.ReferenceIdeal.Hand.head_apply (referenceStates a0 a1 a2 a3 a4 a5 256) a6 a7 b o).symm
  refine congrArg₂ (fun p q : EReal => p + q) ?_ (head_row_apply a7 o)
  exact Finset.sum_congr rfl fun k _ => congrArg₂ (fun p q : EReal => p * q) (hh (ix2 b k)) (wfc_apply a6 k o)

end Cert.Equation

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.ReferenceIdeal.StepRun
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The fact the precondition's text states: a scalar is broadcast to the shape of the tokens. -/
theorem preFacts : Cert.Pre_tokens_in_vocab.Facts := ⟨by decide⟩

/-- The reference ends with its arguments kept and every counter at zero. -/
theorem referenceFrame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The array the call is said to leave is the payload of the equation, at the launch's arguments. -/
theorem given_eq (m : (ℓ : Loc Cert.KernelIdeal.nD Cert.KernelIdeal.τ Cert.KernelIdeal.sig) → Buf (Elt Ideal) ℓ) (c : Dev Cert.KernelIdeal.nD) :
    Cert.KernelIdeal.Hand.given (F := Ideal) m c
      = Cert.KernelIdeal.Hand.result
          (Cert.Equation.tokenColumn (m ((c.tc : Thread Cert.KernelIdeal.nD Cert.KernelIdeal.τ).loc Cert.KernelIdeal.main_arg0)))
          (m ((c.tc : Thread Cert.KernelIdeal.nD Cert.KernelIdeal.τ).loc Cert.KernelIdeal.main_arg1))
          (Cert.Equation.inputWeights (m ((c.tc : Thread Cert.KernelIdeal.nD Cert.KernelIdeal.τ).loc Cert.KernelIdeal.main_arg2)))
          (Cert.Equation.hiddenWeights (m ((c.tc : Thread Cert.KernelIdeal.nD Cert.KernelIdeal.τ).loc Cert.KernelIdeal.main_arg3)))
          (Cert.Equation.biasRow (m ((c.tc : Thread Cert.KernelIdeal.nD Cert.KernelIdeal.τ).loc Cert.KernelIdeal.main_arg4)) (m ((c.tc : Thread Cert.KernelIdeal.nD Cert.KernelIdeal.τ).loc Cert.KernelIdeal.main_arg5)))
          (transpose Cert.KernelIdeal.S512x256 [1, 0] (m ((c.tc : Thread Cert.KernelIdeal.nD Cert.KernelIdeal.τ).loc Cert.KernelIdeal.main_arg6))
            Cert.KernelIdeal.Gen.transposes_S256x512_S512x256_1_0)
          (shapeCast Cert.KernelIdeal.S1x256 (m ((c.tc : Thread Cert.KernelIdeal.nD Cert.KernelIdeal.τ).loc Cert.KernelIdeal.main_arg7)) Cert.KernelIdeal.Gen.shapeCasts_S256_S1x256) := by
  unfold Cert.KernelIdeal.Hand.given
  rw [Cert.KernelIdeal.Hand.V1_eq, Cert.KernelIdeal.Gen.V_main_arg1, Cert.KernelIdeal.Hand.V2_eq, Cert.KernelIdeal.Hand.V4_eq,
    Cert.KernelIdeal.Hand.V5_eq, Cert.KernelIdeal.Hand.V7_eq, Cert.KernelIdeal.Hand.V8_eq]
  rfl

/-- The reference's logits at its own launch are what the kernel's call leaves at the kernel's, when the two are launched on the
    same arguments and the tokens are in the vocabulary. -/
theorem reference_eq_given (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hv : ∀ i, ∃ v : Fin 256, (m ((c.tc : Thread Cert.KernelIdeal.nD Cert.KernelIdeal.τ).loc Cert.KernelIdeal.main_arg0) : IVec Cert.KernelIdeal.S64x256 32) i = BitVec.ofNat 32 v.val)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (h7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    Cert.ReferenceIdeal.Step.R_main_v15 (Cert.ReferenceIdeal.Hand.states (Cert.ReferenceIdeal.StepRun.initState m' c) 256)
        (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7))
      = Cert.KernelIdeal.Hand.given (F := Ideal) m c := by
  refine Eq.trans ?_ (given_eq m c).symm
  refine Eq.trans ?_ (Cert.Equation.logits_eq _ _ _ _ _ _ _ _ hv).symm
  unfold Cert.ReferenceIdeal.StepRun.initState Cert.Equation.referenceStates
  rw [h0, h1, h2, h3, h4, h5, h6, h7]

/-- On tokens in the vocabulary, the kernel and the reference, launched on the same arguments, end with the same logits. -/
theorem algebraic : Cert.algebraic_KernelIdeal_ReferenceIdeal_pre_tokens_in_vocab (hKernelIdeal := Cert.KernelIdeal.Gen.facts)
    (hReferenceIdeal := Cert.ReferenceIdeal.Gen.facts) (hPre_tokens_in_vocab := preFacts) := by
  intro m g m' g' hpre hag
  refine ⟨fun c => Cert.KernelIdeal.Hand.given (F := Ideal) m c, ?_, ?_⟩
  · exact (θ_run Cert.KernelIdeal.defs _ _).mono (fun r h c => ⟨(h c).1.trans (Cert.KernelIdeal.Hand.arr_eq m c), (h c).2⟩)
      (Cert.KernelIdeal.Value.run_blocks (F := Ideal) m g)
  · refine (θ_run Cert.ReferenceIdeal.defs _ _).mono (fun r h c => ⟨(h c).1.trans ?_, (h c).2⟩)
      (Cert.ReferenceIdeal.StepRun.run_iter (F := Ideal) m' g'
        (fun c => Cert.ReferenceIdeal.Hand.states (Cert.ReferenceIdeal.StepRun.initState m' c)) (fun _ => rfl) (fun _ _ => rfl))
    obtain ⟨h0, h1, h2, h3, h4, h5, h6, h7⟩ := hag c
    haveI := preFacts
    exact reference_eq_given m m' c (Cert.ReferenceIdeal.Hand.tokens_of_pre _ _ _ _ _ _ _ _ (hpre c)) h0 h1 h2 h3 h4 h5 h6 h7

/-- Everything the certificate claims. -/
theorem claim : Cert.Claim := ⟨Cert.Kernel.Gen.facts, Cert.KernelIdeal.Gen.facts, Cert.ReferenceIdeal.Gen.facts, preFacts,
  fun m ρ _ => Cert.Kernel.Gen.frame m ρ, fun m ρ _ => Cert.KernelIdeal.Gen.frame m ρ, fun m ρ _ => Cert.KernelIdeal.Gen.frame m ρ,
  referenceFrame, fun m ρ _ => referenceFrame m ρ trivial, trivial, algebraic⟩

end Cert.Proof

end
